-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_symmetric [hPre_symmetric : Cert.Pre_symmetric.Facts] (m : (ℓ : Loc Cert.KernelIdeal.nD Cert.KernelIdeal.τ Cert.KernelIdeal.sig) → Buf (Elt Ideal) ℓ) : Prop :=
  ∀ c : Dev Cert.KernelIdeal.nD,
    (Cert.Pre_symmetric.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symmetric [hPre_symmetric : Cert.Pre_symmetric.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symmetric.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_symmetric [hKernelIdeal : Cert.KernelIdeal.Facts] [hPre_symmetric : Cert.Pre_symmetric.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symmetric m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_symmetric [hReferenceIdeal : Cert.ReferenceIdeal.Facts] [hPre_symmetric : Cert.Pre_symmetric.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symmetric m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_symmetric [hKernelIdeal : Cert.KernelIdeal.Facts] [hReferenceIdeal : Cert.ReferenceIdeal.Facts] [hPre_symmetric : Cert.Pre_symmetric.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symmetric m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_symmetric : Cert.Pre_symmetric.Facts),
    quiescent_Kernel (hKernel := hKernel)
    ∧ quiescent_KernelIdeal (hKernelIdeal := hKernelIdeal)
    ∧ quiescent_KernelIdeal_pre_symmetric (hKernelIdeal := hKernelIdeal) (hPre_symmetric := hPre_symmetric)
    ∧ quiescent_ReferenceIdeal (hReferenceIdeal := hReferenceIdeal)
    ∧ quiescent_ReferenceIdeal_pre_symmetric (hReferenceIdeal := hReferenceIdeal) (hPre_symmetric := hPre_symmetric)
    ∧ preserves_Kernel_KernelIdeal
    ∧ algebraic_KernelIdeal_ReferenceIdeal_pre_symmetric (hKernelIdeal := hKernelIdeal) (hReferenceIdeal := hReferenceIdeal) (hPre_symmetric := hPre_symmetric)
-- ==== Pre_symmetric.lean ====
abbrev S256x1024x1 : Shape := ⟨3, ![256, 1024, 1]⟩
abbrev S1024x1024 : Shape := ⟨2, ![1024, 1024]⟩
abbrev S25x1x10 : Shape := ⟨3, ![25, 1, 10]⟩
abbrev S10 : Shape := ⟨1, ![10]⟩
abbrev S10240x10 : Shape := ⟨2, ![10240, 10]⟩
abbrev S_ : Shape := ⟨0, ![]⟩

class Facts : Prop where
  transposes_S1024x1024_S1024x1024_1_0 : S1024x1024.Transposes [1, 0] S1024x1024
  reducesTo_S1024x1024_S_d0_1 : S1024x1024.ReducesTo [0, 1] S_
  h_S_ : 0 < S_.numel

variable [Facts]

def fn {F : FTy → Type} [FloatOps F] (main_arg0 : FVec F S256x1024x1 .f32) (main_arg1 : FVec F S1024x1024 .f32) (main_arg2 : FVec F S25x1x10 .f32) (main_arg3 : FVec F S10 .f32) (main_arg4 : FVec F S10240x10 .f32) (main_arg5 : FVec F S10 .f32) : IVec S_ 1 :=
  let main_v0 : FVec F S1024x1024 .f32 := (transpose S1024x1024 [1, 0] · transposes_S1024x1024_S1024x1024_1_0) main_arg1
  let main_v1 : IVec S1024x1024 1 := cmpf .oeq main_arg1 main_v0
  let main_c : IVec S_ 1 := constantI S_ 1 1#1
  let main_v2 : IVec S_ 1 := (fun x v => Host.reduce IntOp.andi x v reducesTo_S1024x1024_S_d0_1 h_S_) main_v1 main_c
  main_v2
-- ==== Kernel.lean ====
abbrev S256x1024x1 : Shape := ⟨3, ![256, 1024, 1]⟩
abbrev S1024x1024 : Shape := ⟨2, ![1024, 1024]⟩
abbrev S25x1x10 : Shape := ⟨3, ![25, 1, 10]⟩
abbrev S10 : Shape := ⟨1, ![10]⟩
abbrev S10240x10 : Shape := ⟨2, ![10240, 10]⟩
abbrev S256x1024 : Shape := ⟨2, ![256, 1024]⟩
abbrev S25x10 : Shape := ⟨2, ![25, 10]⟩
abbrev S1024x10x10 : Shape := ⟨3, ![1024, 10, 10]⟩
abbrev S10x1024x10 : Shape := ⟨3, ![10, 1024, 10]⟩
abbrev S1x10 : Shape := ⟨2, ![1, 10]⟩
abbrev S256x10 : Shape := ⟨2, ![256, 10]⟩
abbrev S1x1 : Shape := ⟨2, ![1, 1]⟩
abbrev S1 : Shape := ⟨1, ![1]⟩
abbrev S1x1024x10 : Shape := ⟨3, ![1, 1024, 10]⟩
abbrev S1024x10 : Shape := ⟨2, ![1024, 10]⟩
abbrev S256 : Shape := ⟨1, ![256]⟩
abbrev S256x1 : Shape := ⟨2, ![256, 1]⟩

abbrev nBuf : Space → Nat
  | .hbm => 12
  | .vmem => 5
  | .smem => 2
  | _ => 0

abbrev bufTy : (tb : Table) → Fin (tcTables nBuf tb) → BufTy
  | .hbm, ⟨0, _⟩ => ⟨S256x1024x1, .f32⟩
  | .hbm, ⟨1, _⟩ => ⟨S1024x1024, .f32⟩
  | .hbm, ⟨2, _⟩ => ⟨S25x1x10, .f32⟩
  | .hbm, ⟨3, _⟩ => ⟨S10, .f32⟩
  | .hbm, ⟨4, _⟩ => ⟨S10240x10, .f32⟩
  | .hbm, ⟨5, _⟩ => ⟨S10, .f32⟩
  | .hbm, ⟨6, _⟩ => ⟨S256x1024, .f32⟩
  | .hbm, ⟨7, _⟩ => ⟨S25x10, .f32⟩
  | .hbm, ⟨8, _⟩ => ⟨S1024x10x10, .f32⟩
  | .hbm, ⟨9, _⟩ => ⟨S10x1024x10, .f32⟩
  | .hbm, ⟨10, _⟩ => ⟨S1x10, .f32⟩
  | .hbm, ⟨11, _⟩ => ⟨S256x10, .f32⟩
  | .local _ .vmem, ⟨0, _⟩ => ⟨S256x1024, .f32⟩
  | .local _ .vmem, ⟨1, _⟩ => ⟨S1024x1024, .f32⟩
  | .local _ .vmem, ⟨2, _⟩ => ⟨S10x1024x10, .f32⟩
  | .local _ .vmem, ⟨3, _⟩ => ⟨S1x10, .f32⟩
  | .local _ .vmem, ⟨4, _⟩ => ⟨S256x10, .f32⟩
  | .local _ .smem, ⟨0, _⟩ => ⟨S25x10, .f32⟩
  | .local _ .smem, ⟨1, _⟩ => ⟨S10, .f32⟩
  | _, _ => ⟨S256x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S25x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x1024x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S256x1024x1 : Shape := ⟨3, ![256, 1024, 1]⟩
abbrev S1024x1024 : Shape := ⟨2, ![1024, 1024]⟩
abbrev S25x1x10 : Shape := ⟨3, ![25, 1, 10]⟩
abbrev S10 : Shape := ⟨1, ![10]⟩
abbrev S10240x10 : Shape := ⟨2, ![10240, 10]⟩
abbrev S256x1x1024 : Shape := ⟨3, ![256, 1, 1024]⟩
abbrev S_ : Shape := ⟨0, ![]⟩
abbrev S1x256x1024x1 : Shape := ⟨4, ![1, 256, 1024, 1]⟩
abbrev S16x256x1024x1 : Shape := ⟨4, ![16, 256, 1024, 1]⟩
abbrev S9x256x1024x1 : Shape := ⟨4, ![9, 256, 1024, 1]⟩
abbrev S25x256x1024x1 : Shape := ⟨4, ![25, 256, 1024, 1]⟩
abbrev S256x1024x10 : Shape := ⟨3, ![256, 1024, 10]⟩
abbrev S1x1x10 : Shape := ⟨3, ![1, 1, 10]⟩
abbrev S256x10240 : Shape := ⟨2, ![256, 10240]⟩
abbrev S256x10 : Shape := ⟨2, ![256, 10]⟩
abbrev S1x10 : Shape := ⟨2, ![1, 10]⟩
abbrev S256 : Shape := ⟨1, ![256]⟩
abbrev S256x1 : Shape := ⟨2, ![256, 1]⟩

abbrev nBuf : Space → Nat
  | .hbm => 201
  | .vmem => 0
  | .smem => 0
  | _ => 0

abbrev hbmTy0_0 (i : Nat) : BufTy := match i % 128 with
  | 0 => ⟨S256x1024x1, .f32⟩
  | 1 => ⟨S1024x1024, .f32⟩
  | 2 => ⟨S25x1x10, .f32⟩
  | 3 => ⟨S10, .f32⟩
  | 4 => ⟨S10240x10, .f32⟩
  | 5 => ⟨S10, .f32⟩
  | 6 => ⟨S256x1x1024, .f32⟩
  | 7 => ⟨S256x1024x1, .f32⟩
  | 8 => ⟨S256x1x1024, .f32⟩
  | 9 => ⟨S256x1024x1, .f32⟩
  | 10 => ⟨S_, .f32⟩
  | 11 => ⟨S256x1024x1, .f32⟩
  | 12 => ⟨S256x1024x1, .f32⟩
  | 13 => ⟨S256x1024x1, .f32⟩
  | 14 => ⟨S256x1x1024, .f32⟩
  | 15 => ⟨S256x1024x1, .f32⟩
  | 16 => ⟨S_, .f32⟩
  | 17 => ⟨S256x1024x1, .f32⟩
  | 18 => ⟨S256x1024x1, .f32⟩
  | 19 => ⟨S256x1024x1, .f32⟩
  | 20 => ⟨S256x1x1024, .f32⟩
  | 21 => ⟨S256x1024x1, .f32⟩
  | 22 => ⟨S_, .f32⟩
  | 23 => ⟨S256x1024x1, .f32⟩
  | 24 => ⟨S256x1024x1, .f32⟩
  | 25 => ⟨S256x1024x1, .f32⟩
  | 26 => ⟨S256x1x1024, .f32⟩
  | 27 => ⟨S256x1024x1, .f32⟩
  | 28 => ⟨S_, .f32⟩
  | 29 => ⟨S256x1024x1, .f32⟩
  | 30 => ⟨S256x1024x1, .f32⟩
  | 31 => ⟨S256x1024x1, .f32⟩
  | 32 => ⟨S256x1x1024, .f32⟩
  | 33 => ⟨S256x1024x1, .f32⟩
  | 34 => ⟨S_, .f32⟩
  | 35 => ⟨S256x1024x1, .f32⟩
  | 36 => ⟨S256x1024x1, .f32⟩
  | 37 => ⟨S256x1024x1, .f32⟩
  | 38 => ⟨S256x1x1024, .f32⟩
  | 39 => ⟨S256x1024x1, .f32⟩
  | 40 => ⟨S_, .f32⟩
  | 41 => ⟨S256x1024x1, .f32⟩
  | 42 => ⟨S256x1024x1, .f32⟩
  | 43 => ⟨S256x1024x1, .f32⟩
  | 44 => ⟨S256x1x1024, .f32⟩
  | 45 => ⟨S256x1024x1, .f32⟩
  | 46 => ⟨S_, .f32⟩
  | 47 => ⟨S256x1024x1, .f32⟩
  | 48 => ⟨S256x1024x1, .f32⟩
  | 49 => ⟨S256x1024x1, .f32⟩
  | 50 => ⟨S256x1x1024, .f32⟩
  | 51 => ⟨S256x1024x1, .f32⟩
  | 52 => ⟨S_, .f32⟩
  | 53 => ⟨S256x1024x1, .f32⟩
  | 54 => ⟨S256x1024x1, .f32⟩
  | 55 => ⟨S256x1024x1, .f32⟩
  | 56 => ⟨S256x1x1024, .f32⟩
  | 57 => ⟨S256x1024x1, .f32⟩
  | 58 => ⟨S_, .f32⟩
  | 59 => ⟨S256x1024x1, .f32⟩
  | 60 => ⟨S256x1024x1, .f32⟩
  | 61 => ⟨S256x1024x1, .f32⟩
  | 62 => ⟨S256x1x1024, .f32⟩
  | 63 => ⟨S256x1024x1, .f32⟩
  | 64 => ⟨S_, .f32⟩
  | 65 => ⟨S256x1024x1, .f32⟩
  | 66 => ⟨S256x1024x1, .f32⟩
  | 67 => ⟨S256x1024x1, .f32⟩
  | 68 => ⟨S256x1x1024, .f32⟩
  | 69 => ⟨S256x1024x1, .f32⟩
  | 70 => ⟨S_, .f32⟩
  | 71 => ⟨S256x1024x1, .f32⟩
  | 72 => ⟨S256x1024x1, .f32⟩
  | 73 => ⟨S256x1024x1, .f32⟩
  | 74 => ⟨S256x1x1024, .f32⟩
  | 75 => ⟨S256x1024x1, .f32⟩
  | 76 => ⟨S_, .f32⟩
  | 77 => ⟨S256x1024x1, .f32⟩
  | 78 => ⟨S256x1024x1, .f32⟩
  | 79 => ⟨S256x1024x1, .f32⟩
  | 80 => ⟨S256x1x1024, .f32⟩
  | 81 => ⟨S256x1024x1, .f32⟩
  | 82 => ⟨S_, .f32⟩
  | 83 => ⟨S256x1024x1, .f32⟩
  | 84 => ⟨S256x1024x1, .f32⟩
  | 85 => ⟨S256x1024x1, .f32⟩
  | 86 => ⟨S256x1x1024, .f32⟩
  | 87 => ⟨S256x1024x1, .f32⟩
  | 88 => ⟨S_, .f32⟩
  | 89 => ⟨S256x1024x1, .f32⟩
  | 90 => ⟨S256x1024x1, .f32⟩
  | 91 => ⟨S256x1024x1, .f32⟩
  | 92 => ⟨S256x1x1024, .f32⟩
  | 93 => ⟨S256x1024x1, .f32⟩
  | 94 => ⟨S_, .f32⟩
  | 95 => ⟨S256x1024x1, .f32⟩
  | 96 => ⟨S256x1024x1, .f32⟩
  | 97 => ⟨S256x1024x1, .f32⟩
  | 98 => ⟨S256x1x1024, .f32⟩
  | 99 => ⟨S256x1024x1, .f32⟩
  | 100 => ⟨S_, .f32⟩
  | 101 => ⟨S256x1024x1, .f32⟩
  | 102 => ⟨S256x1024x1, .f32⟩
  | 103 => ⟨S256x1024x1, .f32⟩
  | 104 => ⟨S256x1x1024, .f32⟩
  | 105 => ⟨S256x1024x1, .f32⟩
  | 106 => ⟨S_, .f32⟩
  | 107 => ⟨S256x1024x1, .f32⟩
  | 108 => ⟨S256x1024x1, .f32⟩
  | 109 => ⟨S256x1024x1, .f32⟩
  | 110 => ⟨S256x1x1024, .f32⟩
  | 111 => ⟨S256x1024x1, .f32⟩
  | 112 => ⟨S_, .f32⟩
  | 113 => ⟨S256x1024x1, .f32⟩
  | 114 => ⟨S256x1024x1, .f32⟩
  | 115 => ⟨S256x1024x1, .f32⟩
  | 116 => ⟨S256x1x1024, .f32⟩
  | 117 => ⟨S256x1024x1, .f32⟩
  | 118 => ⟨S_, .f32⟩
  | 119 => ⟨S256x1024x1, .f32⟩
  | 120 => ⟨S256x1024x1, .f32⟩
  | 121 => ⟨S256x1024x1, .f32⟩
  | 122 => ⟨S256x1x1024, .f32⟩
  | 123 => ⟨S256x1024x1, .f32⟩
  | 124 => ⟨S_, .f32⟩
  | 125 => ⟨S256x1024x1, .f32⟩
  | 126 => ⟨S256x1024x1, .f32⟩
  | 127 => ⟨S256x1024x1, .f32⟩
  | _ => ⟨S256x1024x1, .f32⟩

abbrev hbmTy0_1 (i : Nat) : BufTy := match i % 128 with
  | 0 => ⟨S256x1x1024, .f32⟩
  | 1 => ⟨S256x1024x1, .f32⟩
  | 2 => ⟨S_, .f32⟩
  | 3 => ⟨S256x1024x1, .f32⟩
  | 4 => ⟨S256x1024x1, .f32⟩
  | 5 => ⟨S256x1024x1, .f32⟩
  | 6 => ⟨S256x1x1024, .f32⟩
  | 7 => ⟨S256x1024x1, .f32⟩
  | 8 => ⟨S_, .f32⟩
  | 9 => ⟨S256x1024x1, .f32⟩
  | 10 => ⟨S256x1024x1, .f32⟩
  | 11 => ⟨S256x1024x1, .f32⟩
  | 12 => ⟨S256x1x1024, .f32⟩
  | 13 => ⟨S256x1024x1, .f32⟩
  | 14 => ⟨S_, .f32⟩
  | 15 => ⟨S256x1024x1, .f32⟩
  | 16 => ⟨S256x1024x1, .f32⟩
  | 17 => ⟨S256x1024x1, .f32⟩
  | 18 => ⟨S1x256x1024x1, .f32⟩
  | 19 => ⟨S1x256x1024x1, .f32⟩
  | 20 => ⟨S1x256x1024x1, .f32⟩
  | 21 => ⟨S1x256x1024x1, .f32⟩
  | 22 => ⟨S1x256x1024x1, .f32⟩
  | 23 => ⟨S1x256x1024x1, .f32⟩
  | 24 => ⟨S1x256x1024x1, .f32⟩
  | 25 => ⟨S1x256x1024x1, .f32⟩
  | 26 => ⟨S1x256x1024x1, .f32⟩
  | 27 => ⟨S1x256x1024x1, .f32⟩
  | 28 => ⟨S1x256x1024x1, .f32⟩
  | 29 => ⟨S1x256x1024x1, .f32⟩
  | 30 => ⟨S1x256x1024x1, .f32⟩
  | 31 => ⟨S1x256x1024x1, .f32⟩
  | 32 => ⟨S1x256x1024x1, .f32⟩
  | 33 => ⟨S1x256x1024x1, .f32⟩
  | 34 => ⟨S1x256x1024x1, .f32⟩
  | 35 => ⟨S1x256x1024x1, .f32⟩
  | 36 => ⟨S1x256x1024x1, .f32⟩
  | 37 => ⟨S1x256x1024x1, .f32⟩
  | 38 => ⟨S1x256x1024x1, .f32⟩
  | 39 => ⟨S1x256x1024x1, .f32⟩
  | 40 => ⟨S1x256x1024x1, .f32⟩
  | 41 => ⟨S1x256x1024x1, .f32⟩
  | 42 => ⟨S1x256x1024x1, .f32⟩
  | 43 => ⟨S16x256x1024x1, .f32⟩
  | 44 => ⟨S9x256x1024x1, .f32⟩
  | 45 => ⟨S25x256x1024x1, .f32⟩
  | 46 => ⟨S256x1024x10, .f32⟩
  | 47 => ⟨S1x1x10, .f32⟩
  | 48 => ⟨S256x1024x10, .f32⟩
  | 49 => ⟨S256x1024x10, .f32⟩
  | 50 => ⟨S_, .f32⟩
  | 51 => ⟨S256x1024x10, .f32⟩
  | 52 => ⟨S256x1024x10, .f32⟩
  | 53 => ⟨S256x10240, .f32⟩
  | 54 => ⟨S256x10, .f32⟩
  | 55 => ⟨S1x10, .f32⟩
  | 56 => ⟨S256x10, .f32⟩
  | 57 => ⟨S256x10, .f32⟩
  | 58 => ⟨S_, .f32⟩
  | 59 => ⟨S256, .f32⟩
  | 60 => ⟨S_, .f32⟩
  | 61 => ⟨S256, .f32⟩
  | 62 => ⟨S256, .f32⟩
  | 63 => ⟨S256x1, .f32⟩
  | 64 => ⟨S256x10, .f32⟩
  | 65 => ⟨S256x10, .f32⟩
  | 66 => ⟨S256x10, .f32⟩
  | 67 => ⟨S_, .f32⟩
  | 68 => ⟨S256, .f32⟩
  | 69 => ⟨S256x1, .f32⟩
  | 70 => ⟨S256x1, .f32⟩
  | 71 => ⟨S256x10, .f32⟩
  | 72 => ⟨S256x10, .f32⟩
  | _ => ⟨S256x1024x1, .f32⟩

abbrev hbmTy (i : Nat) : BufTy := match i / 128 with
  | 0 => hbmTy0_0 i
  | 1 => hbmTy0_1 i
  | _ => ⟨S256x1024x1, .f32⟩

abbrev bufTy : (tb : Table) → Fin (tcTables nBuf tb) → BufTy
  | .hbm, ⟨i, _⟩ => hbmTy i
  | _, _ => ⟨S256x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_14 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_15 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_16 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_17 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_18 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_19 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_20 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_21 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_call0_cst : Ref sig .tc := ⟨.hbm, 178, rfl⟩
abbrev main_call0_v0 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_call1_cst : Ref sig .tc := ⟨.hbm, 186, rfl⟩
abbrev main_call1_v0 : Ref sig .tc := ⟨.hbm, 187, rfl⟩
abbrev main_call1_cst_0 : Ref sig .tc := ⟨.hbm, 188, rfl⟩
abbrev main_call1_v1 : Ref sig .tc := ⟨.hbm, 189, rfl⟩
abbrev main_call1_v2 : Ref sig .tc := ⟨.hbm, 190, rfl⟩
abbrev main_call1_v3 : Ref sig .tc := ⟨.hbm, 191, rfl⟩
abbrev main_call1_v4 : Ref sig .tc := ⟨.hbm, 192, rfl⟩
abbrev main_call1_v5 : Ref sig .tc := ⟨.hbm, 193, rfl⟩
abbrev main_call1_v6 : Ref sig .tc := ⟨.hbm, 194, rfl⟩
abbrev main_call1_cst_1 : Ref sig .tc := ⟨.hbm, 195, rfl⟩
abbrev main_call1_v7 : Ref sig .tc := ⟨.hbm, 196, rfl⟩
abbrev main_call1_v8 : Ref sig .tc := ⟨.hbm, 197, rfl⟩
abbrev main_call1_v9 : Ref sig .tc := ⟨.hbm, 198, rfl⟩
abbrev main_call1_v10 : Ref sig .tc := ⟨.hbm, 199, rfl⟩
abbrev main_v155 : Ref sig .tc := ⟨.hbm, 200, rfl⟩

abbrev nD : Nat := 1
abbrev τ : Topo := Topo.v7x

variable {F : FTy → Type} [FloatOps F]
-- ==== Proof.ChebMath.lean ====
/-
  The layer's mathematics, on extended reals and with nothing of either program in it: the Chebyshev terms of a batch of
  signals on a graph, the hidden units they give, the ten scores of each signal, and the logarithm of their softmax.
-/
module

public import Idealize.ShloMosaic.Lib.Pointwise

@[expose] public section

noncomputable section

namespace Cert.Cheb

open Idealize.ShloMosaic

/-- The binary word of `2.0` is the number two. -/
theorem word_two : Ideal.ofBits .f32 0x40000000#32 = 2 := by
  simp [Ideal.ofBits, Ideal.ieee]
  rw [show (2 : EReal) = ((2 : ℝ) : EReal) from rfl, ← EReal.coe_mul]
  norm_num

/-- The binary word of `0.5` is the number one half. -/
theorem word_half : Ideal.ofBits .f32 0x3F000000#32 = ((2⁻¹ : ℝ) : EReal) := by
  simp [Ideal.ofBits, Ideal.ieee]
  rw [← EReal.coe_mul]
  norm_num

/-- The binary word of minus infinity is the least extended real. -/
theorem word_bot : Ideal.ofBits .f32 0xFF800000#32 = ⊥ := by
  simp [Ideal.ofBits, Ideal.ieee]

/-- Doubling every term of a sum doubles the sum. -/
theorem sum_mul_two {ι : Type} [Fintype ι] (f : ι → EReal) : ∑ j, f j * 2 = 2 * ∑ j, f j := by
  have two (a : EReal) : 2 * a = a + a := by
    have h := EReal.right_distrib_of_nonneg (a := 1) (b := 1) (c := a) zero_le_one zero_le_one
    rwa [one_mul, one_add_one_eq_two] at h
  simp only [mul_comm _ (2 : EReal), two, Finset.sum_add_distrib]

/-- Half of the double is the number itself. -/
theorem half_two (a : EReal) : ((2⁻¹ : ℝ) : EReal) * (2 * a) = a := by
  have h : ((2⁻¹ : ℝ) : EReal) * 2 = 1 := by
    rw [show (2 : EReal) = ((2 : ℝ) : EReal) from rfl, ← EReal.coe_mul]
    norm_num
  rw [← mul_assoc, h, one_mul]

/-- A sum over the 10240 rows `10 n + g` of the last layer, as a sum over `g` and `n`. -/
theorem sum_rows (f : Fin 10240 → EReal) :
    ∑ r, f r = ∑ g : Fin 10, ∑ n : Fin 1024, f (Fin.ofNat 10240 ((n : ℕ) * 10 + (g : ℕ))) := by
  rw [Finset.sum_comm, ← Fintype.sum_prod_type', ← Equiv.sum_comp (finProdFinEquiv (m := 1024) (n := 10)) f]
  refine Finset.sum_congr rfl fun p _ => congrArg f (Fin.ext ?_)
  have h : (p.1 : ℕ) * 10 + (p.2 : ℕ) < 10240 := by omega
  show (p.2 : ℕ) + 10 * (p.1 : ℕ) = ((p.1 : ℕ) * 10 + (p.2 : ℕ)) % 10240
  rw [Nat.mod_eq_of_lt h]
  omega

/-- The node of row `10 n + g` is `n`. -/
theorem row_node (n : Fin 1024) (g : Fin 10) : ((Fin.ofNat 10240 ((n : ℕ) * 10 + (g : ℕ)) : Fin 10240) : ℕ) / 10 = n := by
  show ((n : ℕ) * 10 + (g : ℕ)) % 10240 / 10 = n
  omega

/-- The filter of row `10 n + g` is `g`. -/
theorem row_filter (n : Fin 1024) (g : Fin 10) : ((Fin.ofNat 10240 ((n : ℕ) * 10 + (g : ℕ)) : Fin 10240) : ℕ) % 10 = g := by
  show ((n : ℕ) * 10 + (g : ℕ)) % 10240 % 10 = g
  omega

variable (L : Fin 1024 → Fin 1024 → EReal) (x : Fin 256 → Fin 1024 → EReal)

/-- The Chebyshev terms: `T₀ x = x`, `T₁ x = L x`, `T_{k+2} x = 2 L T_{k+1} x - T_k x`; entry `(b, n)` is signal `b` at
    node `n`. -/
def cheb : ℕ → Fin 256 → Fin 1024 → EReal
  | 0 => x
  | 1 => fun b n => ∑ j, x b j * L n j
  | k + 2 => fun b n => 2 * (∑ j, cheb (k + 1) b j * L n j) - cheb k b n

/-- The hidden unit of signal `b`, node `n` and filter `g`: the filter's weighted sum of the 25 Chebyshev terms, plus its
    bias, cut off below at zero. -/
def hidden (w : Fin 25 → Fin 10 → EReal) (bias : Fin 10 → EReal) (b : Fin 256) (n : Fin 1024) (g : Fin 10) : EReal :=
  max ((∑ k : Fin 25, cheb L x k b n * w k g) + bias g) 0

/-- The score of signal `b` for class `d`, of hidden units `h` by the last layer `W` and its bias `bo`. -/
def score (h : Fin 256 → Fin 1024 → Fin 10 → EReal) (W : Fin 1024 → Fin 10 → Fin 10 → EReal) (bo : Fin 10 → EReal)
    (b : Fin 256) (d : Fin 10) : EReal :=
  (∑ g, ∑ n, h b n g * W n g d) + bo d

/-- A score less the largest of its row. -/
def lessTop (z : Fin 256 → Fin 10 → EReal) (b : Fin 256) (d : Fin 10) : EReal :=
  z b d - Finset.univ.fold max ⊥ fun e => z b e

/-- The logarithm of the softmax of a row of scores: each less the row's largest, then less the logarithm of the sum of
    the exponentials. -/
def logSoftmax (z : Fin 256 → Fin 10 → EReal) (b : Fin 256) (d : Fin 10) : EReal :=
  lessTop z b d - Ideal.log (∑ e, Ideal.exp (lessTop z b e))

/-- The whole layer. -/
def net (w : Fin 25 → Fin 10 → EReal) (bias : Fin 10 → EReal) (W : Fin 1024 → Fin 10 → Fin 10 → EReal)
    (bo : Fin 10 → EReal) : Fin 256 → Fin 10 → EReal :=
  logSoftmax (score (hidden L x w bias) W bo)

end Cert.Cheb
-- ==== Proof.ChebKernel.lean ====
/-
  The Chebyshev terms the kernel computes. Its body holds a batch block `x` (256 × 1024) and the Laplacian `L`
  (1024 × 1024); it doubles the Laplacian once and then builds `T₁ = 0.5 · x (2L)` and
  `T_{k+2} = T_{k+1} (2L) − T_k`. Here the recursion is written once, and each of the body's terms is shown to be it.
-/
module

public import proofs.«01_k».proof.Proof.Gen.KernelIdeal.Value
public import Idealize.ShloMosaic.Lib.Pointwise
public import Idealize.ShloMosaic.Lib.Tactic

@[expose] public section

set_option maxRecDepth 16384

noncomputable section

namespace Cert.Cheb

open Idealize.ShloMosaic Idealize.ShloMosaic.TcCoe Cert.KernelIdeal Cert.KernelIdeal.Gen

/-- One product of the kernel: a 256 × 1024 block times the doubled Laplacian, from a zero accumulator. -/
abbrev timesTwoL (L : FVec Ideal S1024x1024 .f32) (p : FVec Ideal S256x1024 .f32) : FVec Ideal S256x1024 .f32 :=
  matmul dot_S256x1024_S1024x1024_S256x1024_1_0_0_1_n_n none (truncf .bf16 p bitsLt_bf16_f32) (k0_pay1 L)
    (constant S256x1024 .f32 0x00000000#32)

/-- The kernel's Chebyshev terms: `T₀ = x`, `T₁ = 0.5 · x (2L)`, `T_{k+2} = T_{k+1} (2L) − T_k`. -/
def KT (L : FVec Ideal S1024x1024 .f32) (x : FVec Ideal S256x1024 .f32) : ℕ → FVec Ideal S256x1024 .f32
  | 0 => x
  | 1 => mulf (broadcast S256x1024 (Scalar.ofBits .f32 0x3F000000#32)) (timesTwoL L x)
  | k + 2 => subf (timesTwoL L (KT L x (k + 1))) (KT L x k)

variable (L : FVec Ideal S1024x1024 .f32) (x : FVec Ideal S256x1024 .f32)

/-- The recursion's step, for any two blocks already known to be neighbouring terms. -/
theorem step {k : ℕ} {p q : FVec Ideal S256x1024 .f32} (hp : p = KT L x (k + 1)) (hq : q = KT L x k) :
    subf (timesTwoL L p) q = KT L x (k + 2) := by
  subst hp hq; rfl

/-- The body's first three terms: the block itself read twice, and the halved product. -/
theorem term0 : shapeCast S256x1024 x shapeCasts_S256x1024_S256x1024 = KT L x 0 := by rw [shapeCast_self]; rfl
theorem term1 : k0_pay3 L x = KT L x 1 := by unfold k0_pay3 k0_pay2; rw [shapeCast_self]; rfl
theorem term2 : k0_pay5 L x x = KT L x 2 := step L x (term1 L x) (term0 L x)
theorem term3 : k0_pay7 L x x = KT L x 3 := step L x (term2 L x) (term1 L x)
theorem term4 : k0_pay9 L x x = KT L x 4 := step L x (term3 L x) (term2 L x)
theorem term5 : k0_pay11 L x x = KT L x 5 := step L x (term4 L x) (term3 L x)
theorem term6 : k0_pay13 L x x = KT L x 6 := step L x (term5 L x) (term4 L x)
theorem term7 : k0_pay15 L x x = KT L x 7 := step L x (term6 L x) (term5 L x)
theorem term8 : k0_pay17 L x x = KT L x 8 := step L x (term7 L x) (term6 L x)
theorem term9 : k0_pay19 L x x = KT L x 9 := step L x (term8 L x) (term7 L x)
theorem term10 : k0_pay21 L x x = KT L x 10 := step L x (term9 L x) (term8 L x)

/-- The eleventh term, which the body forms from the ninth and the product with the tenth. -/
theorem term11 : k0_pay24 (KT L x 9) (k0_pay23 L x x) = KT L x 11 := step L x (term10 L x) rfl

/-- The tenth and eleventh terms as the second half of the body takes them: the eleventh also narrowed. -/
abbrev late (f : FVec Ideal S1024x1024 .bf16 → FVec Ideal S256x1024 .f32 → FVec Ideal S256x1024 .f32 →
    FVec Ideal S256x1024 .bf16 → FVec Ideal S256x1024 .f32) : FVec Ideal S256x1024 .f32 :=
  f (k0_pay1 L) (KT L x 10) (KT L x 11) (truncf .bf16 (KT L x 11) bitsLt_bf16_f32)

theorem term12 : k0_pay56 (k0_pay1 L) (KT L x 10) (truncf .bf16 (KT L x 11) bitsLt_bf16_f32) = KT L x 12 :=
  step L x rfl rfl
theorem term13 : late L x k0_pay58 = KT L x 13 := step L x (term12 L x) rfl
theorem term14 : late L x k0_pay60 = KT L x 14 := step L x (term13 L x) (term12 L x)
theorem term15 : late L x k0_pay62 = KT L x 15 := step L x (term14 L x) (term13 L x)
theorem term16 : late L x k0_pay64 = KT L x 16 := step L x (term15 L x) (term14 L x)
theorem term17 : late L x k0_pay66 = KT L x 17 := step L x (term16 L x) (term15 L x)
theorem term18 : late L x k0_pay68 = KT L x 18 := step L x (term17 L x) (term16 L x)
theorem term19 : late L x k0_pay70 = KT L x 19 := step L x (term18 L x) (term17 L x)
theorem term20 : late L x k0_pay72 = KT L x 20 := step L x (term19 L x) (term18 L x)
theorem term21 : late L x k0_pay74 = KT L x 21 := step L x (term20 L x) (term19 L x)
theorem term22 : late L x k0_pay76 = KT L x 22 := step L x (term21 L x) (term20 L x)
/-- The last two, which the body only keeps narrowed. -/
theorem term23 : k0_pay78 (k0_pay1 L) (KT L x 10) (KT L x 11) (truncf .bf16 (KT L x 11) bitsLt_bf16_f32)
    = truncf .bf16 (KT L x 23) bitsLt_bf16_f32 :=
  congrArg (truncf .bf16 · bitsLt_bf16_f32) (step L x (term22 L x) (term21 L x))
theorem term24 : k0_pay109 (k0_pay1 L) (KT L x 22) (truncf .bf16 (KT L x 23) bitsLt_bf16_f32)
    = truncf .bf16 (KT L x 24) bitsLt_bf16_f32 := rfl

end Cert.Cheb
-- ==== Proof.KernelBody.lean ====
/-
  What the kernel's body leaves in its output block, as one expression in the Chebyshev terms: for each of the ten
  filters the terms weighted and summed in three groups (0 to 11, 12 to 23, 24), the filter's bias added, the negative
  part cut off; the ten results multiplied by their slices of the output layer and added to its bias; and the
  logarithm of the softmax along the ten classes.
-/
module

public import proofs.«01_k».proof.Proof.ChebKernel

@[expose] public section

set_option maxRecDepth 16384

noncomputable section

namespace Cert.Cheb

open Idealize.ShloMosaic Idealize.ShloMosaic.TcCoe Cert.KernelIdeal Cert.KernelIdeal.Gen

/-- One term times its scalar weight, both narrowed. -/
abbrev weighted (w : EReal) (t : FVec Ideal S256x1024 .f32) : FVec Ideal S256x1024 .bf16 :=
  mulf (broadcast S256x1024 (Scalar.truncf (F := Ideal) .bf16 bitsLt_bf16_f32 w)) (truncf .bf16 t bitsLt_bf16_f32)

/-- Twelve consecutive weighted terms added first to last, from term `s`. -/
abbrev twelve (a : ℕ → FVec Ideal S256x1024 .bf16) (s : ℕ) : FVec Ideal S256x1024 .bf16 :=
  addf (addf (addf (addf (addf (addf (addf (addf (addf (addf (addf (a s) (a (s + 1))) (a (s + 2))) (a (s + 3)))
    (a (s + 4))) (a (s + 5))) (a (s + 6))) (a (s + 7))) (a (s + 8))) (a (s + 9))) (a (s + 10))) (a (s + 11))

/-- The twenty-five weighted terms added in the body's three groups. -/
abbrev grouped (a : ℕ → FVec Ideal S256x1024 .bf16) : FVec Ideal S256x1024 .f32 :=
  addf (addf (extf .f32 (twelve a 0) bitsLt_bf16_f32) (extf .f32 (twelve a 12) bitsLt_bf16_f32))
    (extf .f32 (a 24) bitsLt_bf16_f32)

/-- Bias added, negative part cut off, narrowed. -/
abbrev cutOff (h : FVec Ideal S256x1024 .f32) (b : EReal) : FVec Ideal S256x1024 .bf16 :=
  truncf .bf16 (maximumf (addf h (broadcast S256x1024 b)) (broadcast S256x1024 (Scalar.ofBits .f32 0x00000000#32)))
    bitsLt_bf16_f32

/-- Slice `g` of the output layer's weights, as a matrix. -/
def layer (W : FVec Ideal S10x1024x10 .f32) (g : Fin 10) : FVec Ideal S1024x10 .bf16 := fun i => W (ix3 g (i 0) (i 1))

/-- One filter's share of the logits. -/
abbrev share (r : FVec Ideal S256x1024 .bf16) (w : FVec Ideal S1024x10 .bf16) : FVec Ideal S256x10 .f32 :=
  matmul dot_S256x1024_S1024x10_S256x10_1_0_0_1_n_n none r w (constant S256x10 .f32 0x00000000#32)

/-- The logits: the bias row, then the ten filters' shares added first to last. -/
abbrev logitsOf (b : FVec Ideal S1x10 .f32) (p : Fin 10 → FVec Ideal S256x10 .f32) : FVec Ideal S256x10 .f32 :=
  addf (addf (addf (addf (addf (addf (addf (addf (addf (addf (broadcastTo S256x10 b broadcasts_S1x10_S256x10)
    (p 0)) (p 1)) (p 2)) (p 3)) (p 4)) (p 5)) (p 6)) (p 7)) (p 8)) (p 9)

/-- Each row less its greatest entry. -/
abbrev lessMax (z : FVec Ideal S256x10 .f32) : FVec Ideal S256x10 .f32 :=
  subf z (broadcastTo S256x10 (shapeCast S256x1 (multiReduction .maximumf [1] S256 z 0xFF800000#32
    reduces_S256x10_S256 (.inl rfl) rfl) shapeCasts_S256_S256x1) broadcasts_S256x1_S256x10)

/-- Each row less the logarithm of the sum of its exponentials. -/
abbrev lessLogSum (z : FVec Ideal S256x10 .f32) : FVec Ideal S256x10 .f32 :=
  subf z (broadcastTo S256x10 (log (shapeCast S256x1 (multiReduction .add [1] S256 (exp z) 0x00000000#32
    reduces_S256x10_S256 (.inl rfl) rfl) shapeCasts_S256_S256x1)) broadcasts_S256x1_S256x10)

/-- The whole body: its output block from the six input blocks. -/
def body (x : FVec Ideal S256x1024 .f32) (L : FVec Ideal S1024x1024 .f32) (w : FVec Ideal S25x10 .f32)
    (b : FVec Ideal S10 .f32) (W : FVec Ideal S10x1024x10 .f32) (bo : FVec Ideal S1x10 .f32) : FVec Ideal S256x10 .f32 :=
  lessLogSum (lessMax (logitsOf bo fun g =>
    share (cutOff (grouped fun k => weighted (w (ix2 (Fin.ofNat 25 k) g)) (KT L x k)) (b (ix1 g))) (layer W g)))

/-- Term zero is the block itself. -/
theorem KT_zero (L : FVec Ideal S1024x1024 .f32) (x : FVec Ideal S256x1024 .f32) : KT L x 0 = x := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- A scalar load at literal position `(a, b)` of the filter weights reads that position, which is in range. -/
theorem weight_lt0 {a b : ℕ} (inb : ∀ c, (![a, b] : Fin 2 → ℕ) c + (![1, 1] : Fin 2 → ℕ) c ≤ S25x10.size c) :
    a < 25 := Nat.lt_of_succ_le (inb 0)
theorem weight_lt1 {a b : ℕ} (inb : ∀ c, (![a, b] : Fin 2 → ℕ) c + (![1, 1] : Fin 2 → ℕ) c ≤ S25x10.size c) :
    b < 10 := Nat.lt_of_succ_le (inb 1)
theorem idx_weight (a b : ℕ) (inb : ∀ c, (![a, b] : Fin 2 → ℕ) c + (![1, 1] : Fin 2 → ℕ) c ≤ S25x10.size c) (h) :
    (Rect.unit (s := S25x10) ![a, b] ![1, 1] inb).toLoadRect.idx (Shape.Idx.first h)
      = ix2 (⟨a, weight_lt0 inb⟩ : Fin 25) (⟨b, weight_lt1 inb⟩ : Fin 10) := by
  funext c
  fin_cases c <;> rfl

/-- A scalar load at literal position `a` of the filter biases reads that position, which is in range. -/
theorem bias_lt {a : ℕ} (inb : ∀ c, (![a] : Fin 1 → ℕ) c + (![1] : Fin 1 → ℕ) c ≤ S10.size c) : a < 10 :=
  Nat.lt_of_succ_le (inb 0)
theorem idx_bias (a : ℕ) (inb : ∀ c, (![a] : Fin 1 → ℕ) c + (![1] : Fin 1 → ℕ) c ≤ S10.size c) (h) :
    (Rect.unit (s := S10) ![a] ![1] inb).toLoadRect.idx (Shape.Idx.first h)
      = ix1 (⟨a, bias_lt inb⟩ : Fin 10) := by
  funext c
  fin_cases c; rfl

/-- The body's slice `g` of the output layer, its unit axis dropped, is that slice; `g` is in range. -/
theorem slice_lt {g : ℕ} (hs : S10x1024x10.Slices ![g, 0, 0] S1x1024x10) : g < 10 := by
  have := hs.2 0
  simp at this
  omega
theorem slice_layer (W : FVec Ideal S10x1024x10 .f32) (g : ℕ) (hs : S10x1024x10.Slices ![g, 0, 0] S1x1024x10) :
    shapeCast S1024x10 (extractStridedSlice S1x1024x10 ![g, 0, 0] (k0_pay120 W) hs) shapeCasts_S1x1024x10_S1024x10
      = layer W ⟨g, slice_lt hs⟩ := by
  funext i
  idx_vars i
  pointwise [k0_pay120, layer]

set_option maxHeartbeats 1000000 in
/-- The body's output block is `body` of its input blocks, whatever buffers it is staged through. -/
theorem out_eq (c : Dev nD) (arg0 : Memref sig .tc .vmem S256x1024 .f32) (harg0 : arg0.IsWhole)
    (arg1 : Memref sig .tc .vmem S1024x1024 .f32) (harg1 : arg1.IsWhole)
    (arg2 : Memref sig .tc .smem S25x10 .f32) (harg2 : arg2.IsWhole)
    (arg3 : Memref sig .tc .smem S10 .f32) (harg3 : arg3.IsWhole)
    (arg4 : Memref sig .tc .vmem S10x1024x10 .f32) (harg4 : arg4.IsWhole)
    (arg5 : Memref sig .tc .vmem S1x10 .f32) (harg5 : arg5.IsWhole)
    (arg6 : Memref sig .tc .vmem S256x10 .f32) (harg6 : arg6.IsWhole)
    (x0 : Vec Ideal S256x1024 .f32) (x1 : Vec Ideal S1024x1024 .f32) (x2 : Vec Ideal S25x10 .f32)
    (x3 : Vec Ideal S10 .f32) (x4 : Vec Ideal S10x1024x10 .f32) (x5 : Vec Ideal S1x10 .f32) :
    out0_A_6 c arg0 harg0 arg1 harg1 arg2 harg2 arg3 harg3 arg4 harg4 arg5 harg5 arg6 harg6 x0 x1 x2 x3 x4 x5
      = body x0 x1 x2 x3 x4 x5 := by
  unfold out0_A_6
  rw [View.read_writes_eq_canon _ _ _
    (cover0_A_6 c arg0 harg0 arg1 harg1 arg2 harg2 arg3 harg3 arg4 harg4 arg5 harg5 arg6 harg6 x0 x1 x2 x3 x4 x5)]
  unfold kernelRun0_A
  dsimp only
  rw [View.canon_unit_zero hz2]
  sl_unfold_words
  simp only [View.readAt_eq_ld, harg0.read_unread, harg1.read_unread, harg2.read_unread, harg3.read_unread,
    harg4.read_unread, harg5.read_unread, View.ld_unit_zero (S := S256x1024) hz2,
    View.ld_unit_zero (S := S1024x1024) hz2, View.ld_unit_zero (S := S10x1024x10) hz3,
    View.ld_unit_zero (S := S1x10) hz2]
  simp only [View.ld]
  simp only [idx_weight, idx_bias]
  simp only [k0_pay2, shapeCast_self, k0_pay4, k0_pay6, k0_pay8, k0_pay10, k0_pay12, k0_pay14, k0_pay16, k0_pay18,
    k0_pay20, k0_pay22, k0_pay25, term1, term2, term3, term4, term5, term6, term7, term8, term9, term10, term11]
  simp only [k0_pay57, k0_pay59, k0_pay61, k0_pay63, k0_pay65, k0_pay67, k0_pay69, k0_pay71, k0_pay73, k0_pay75,
    k0_pay77, term12, term13, term14, term15, term16, term17, term18, term19, term20, term21, term22, term23]
  simp only [k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay55, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102,
    k0_pay103, k0_pay104, k0_pay105, k0_pay106, k0_pay107, k0_pay108]
  simp only [k0_pay57, term12, term24, k0_pay110, k0_pay111, k0_pay112, k0_pay113, k0_pay114, k0_pay115, k0_pay116,
    k0_pay117, k0_pay118, k0_pay119, k0_pay121, k0_pay122, k0_pay123, k0_pay124, k0_pay125, shapeCast_self,
    slice_layer]
  simp only [body, lessLogSum, lessMax, logitsOf, share, cutOff, grouped, twelve, weighted, KT_zero, Nat.zero_add,
    Nat.reduceAdd, Fin.reduceOfNat, Fin.reduceFinMk, Fin.isValue, Fin.zero_eta, Fin.mk_one]
end Cert.Cheb
-- ==== Proof.KernelArray.lean ====
/-
  What the kernel's result array holds. The grid has one point, and each window's one block is its whole array; so the
  result array is the body's output block at the arrays as the body finds them, and those are the arguments, four of
  them reshaped and one transposed by the lines before the kernel.
-/
module

public import proofs.«01_k».proof.Proof.KernelBody
public import Idealize.ShloMosaic.Lib.StableHlo.Run
public import Idealize.ShloMosaic.Lib.StableHlo.ReadAt

@[expose] public section

set_option maxRecDepth 16384

noncomputable section

namespace Cert.Cheb

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The window on `x` reads the whole of the reshaped first argument. -/
theorem block0 (c : Dev nD) (t : Fin cfg0.N) : iblk m c 0 t = V m c main_v0 := by
  have h : (fun a => win0_0.index t a * main_v0.ty.shape.size a) = fun _ => 0 := by
    funext a; fin_cases t; fin_cases a <;> decide
  exact Memref.read_access_unit_zero (Elt Ideal) main_v0 h (fun a => by rw [congrFun h a]; simp) (V m c main_v0)

/-- The window on `L` reads the whole of the second argument. -/
theorem block1 (c : Dev nD) (t : Fin cfg0.N) : iblk m c 1 t = V m c main_arg1 := by
  have h : (fun a => win0_1.index t a * main_arg1.ty.shape.size a) = fun _ => 0 := by
    funext a; fin_cases t; fin_cases a <;> decide
  exact Memref.read_access_unit_zero (Elt Ideal) main_arg1 h (fun a => by rw [congrFun h a]; simp) (V m c main_arg1)

/-- The window on the filter weights reads the whole of the reshaped third argument. -/
theorem block2 (c : Dev nD) (t : Fin cfg0.N) : iblk m c 2 t = V m c main_v1 := by
  have h : (fun a => win0_2.index t a * main_v1.ty.shape.size a) = fun _ => 0 := by
    funext a; fin_cases t; fin_cases a <;> decide
  exact Memref.read_access_unit_zero (Elt Ideal) main_v1 h (fun a => by rw [congrFun h a]; simp) (V m c main_v1)

/-- The window on the filter biases reads the whole of the fourth argument. -/
theorem block3 (c : Dev nD) (t : Fin cfg0.N) : iblk m c 3 t = V m c main_arg3 := by
  have h : (fun a => win0_3.index t a * main_arg3.ty.shape.size a) = fun _ => 0 := by
    funext a; fin_cases t; fin_cases a <;> decide
  exact Memref.read_access_unit_zero (Elt Ideal) main_arg3 h (fun a => by rw [congrFun h a]; simp) (V m c main_arg3)

/-- The window on the last layer reads the whole of the reshaped and transposed fifth argument. -/
theorem block4 (c : Dev nD) (t : Fin cfg0.N) : iblk m c 4 t = V m c main_v3 := by
  have h : (fun a => win0_4.index t a * main_v3.ty.shape.size a) = fun _ => 0 := by
    funext a; fin_cases t; fin_cases a <;> decide
  exact Memref.read_access_unit_zero (Elt Ideal) main_v3 h (fun a => by rw [congrFun h a]; simp) (V m c main_v3)

/-- The window on the last bias reads the whole of the reshaped sixth argument. -/
theorem block5 (c : Dev nD) (t : Fin cfg0.N) : iblk m c 5 t = V m c main_v4 := by
  have h : (fun a => win0_5.index t a * main_v4.ty.shape.size a) = fun _ => 0 := by
    funext a; fin_cases t; fin_cases a <;> decide
  exact Memref.read_access_unit_zero (Elt Ideal) main_v4 h (fun a => by rw [congrFun h a]; simp) (V m c main_v4)

/-- What the kernel's result is to hold: the body at the arrays it finds. -/
def kernelOut (c : Dev nD) : FVec Ideal S256x10 .f32 :=
  body (V m c main_v0) (V m c main_arg1) (V m c main_v1) (V m c main_arg3) (V m c main_v3) (V m c main_v4)

/-- The result window's one block is the whole result. -/
theorem block6 (t : Fin cfg0.N) (v : FVec Ideal S256x10 .f32) :
    ((cfg0.win 6).blk t).view.read (Elt Ideal) v = v := by
  have h : (fun a => win0_6.index t a * main_v5.ty.shape.size a) = fun _ => 0 := by
    funext a; fin_cases t; fin_cases a <;> decide
  exact Memref.read_access_unit_zero (Elt Ideal) main_v5 h (fun a => by rw [congrFun h a]; simp) v

/-- The one grid point writes that result's block back. -/
theorem flushed_eq (c : Dev nD) (t : Fin cfg0.N) :
    (dats m 0 c).flushed 6 t = ((cfg0.win 6).blk t).view.read (Elt Ideal) (kernelOut m c) := by
  rw [Cert.KernelIdeal.Value.flushed6_A, out_eq, block0, block1, block2, block3, block4, block5, block6]
  rfl

/-- Every index of the result lies in that one block. -/
theorem covered (t : Fin cfg0.N) (i : S256x10.Idx) : i ∈ ((cfg0.win 6).blk t).view.set := by
  show i ∈ ((View.whole main_v5).slice (win0_6.rect t)).set
  rw [View.set_slice_whole, Rect.mem_set_unit]
  have h : ∀ a, win0_6.index t a * win0_6.size a = 0 ∧ win0_6.xsize (grid0.coords t) a = S256x10.size a := by
    intro a; fin_cases t; fin_cases a <;> exact ⟨by decide +kernel, by decide +kernel⟩
  intro a
  show win0_6.index t a * win0_6.size a ≤ (i a : ℕ)
    ∧ (i a : ℕ) < win0_6.index t a * win0_6.size a + win0_6.xsize (grid0.coords t) a
  rw [(h a).1, (h a).2, Nat.zero_add]
  exact ⟨Nat.zero_le _, (i a).isLt⟩

/-- So the result array holds it. -/
theorem array_eq (c : Dev nD) : (dats m 0 c).arrAt 6 cfg0.N = kernelOut m c :=
  (dats m 0 c).arrAt_eq_of_cover 6 (kernelOut m c) (fun t _ => flushed_eq m c t) fun i =>
    ⟨t0_0, by decide +kernel, covered t0_0 i⟩

/-- The first array the body finds: entry `(b, n)` is the first argument's `(b, n, 0)`. -/
theorem found_x (c : Dev nD) (i : S256x1024.Idx) :
    V m c main_v0 i = m (c, main_arg0) (ix3 (i 0) (i 1) 0) := by
  idx_vars i
  unfold V
  after_reads_at

/-- The weights the body finds: entry `(k, g)` is the third argument's `(k, 0, g)`. -/
theorem found_w (c : Dev nD) (i : S25x10.Idx) :
    V m c main_v1 i = m (c, main_arg2) (ix3 (i 0) 0 (i 1)) := by
  idx_vars i
  unfold V
  after_reads_at

/-- The last layer the body finds: entry `(g, n, d)` is the fifth argument's `(10 n + g, d)`. -/
theorem found_W (c : Dev nD) (i : S10x1024x10.Idx) :
    V m c main_v3 i = m (c, main_arg4) (ix2 (Fin.ofNat 10240 ((i 1 : ℕ) * 10 + (i 0 : ℕ))) (i 2)) := by
  idx_vars i
  unfold V
  after_reads_at
  congr 2
  ext
  exact (Nat.mod_eq_of_lt (by show (i1 : ℕ) * 10 + (i0 : ℕ) < 10240; omega)).symm

/-- The last bias the body finds: entry `(0, d)` is the sixth argument's `d`. -/
theorem found_bo (c : Dev nD) (i : S1x10.Idx) :
    V m c main_v4 i = m (c, main_arg5) (ix1 (i 1)) := by
  idx_vars i
  unfold V
  after_reads_at

end Cert.Cheb
-- ==== Proof.KernelValue.lean ====
/-
  The kernel's result, read element by element: where `L` is symmetric, it is the log-softmax of the scores of the hidden
  units of the Chebyshev terms of its arguments.

  The kernel multiplies a signal by `2 L` from the right, so it sums over the rows of `L` where the recursion sums over
  the columns; that is what symmetry is for. It halves the doubled product for the first term. It adds the 25 weighted
  terms in three groups, and the ten filters' shares of the scores to the bias one after another; addition of extended
  reals is associative and commutative, so neither matters.
-/
module

public import proofs.«01_k».proof.Proof.ChebMath
public import proofs.«01_k».proof.Proof.KernelArray

@[expose] public section

set_option maxRecDepth 16384

noncomputable section

namespace Cert.Cheb

open Idealize.ShloMosaic Idealize.ShloMosaic.TcCoe Cert.KernelIdeal Cert.KernelIdeal.Gen

/-- One product by `2 L`, read at signal `b` and node `n`: twice the sum over the column `n` of `L`. -/
theorem timesTwoL_at (L : FVec Ideal S1024x1024 .f32) (p : FVec Ideal S256x1024 .f32) (b : Fin 256) (n : Fin 1024) :
    timesTwoL L p (ix2 b n) = 2 * ∑ j, p (ix2 b j) * L (ix2 j n) := by
  pointwise [timesTwoL, k0_pay1]
  simp only [word_two, ← mul_assoc]
  exact sum_mul_two _

/-- Where `L` is symmetric, the kernel's terms are the Chebyshev terms. -/
theorem KT_eq (L : FVec Ideal S1024x1024 .f32) (hL : ∀ i j : Fin 1024, L (ix2 i j) = L (ix2 j i))
    (x : FVec Ideal S256x1024 .f32) : ∀ (k : ℕ) (b : Fin 256) (n : Fin 1024),
      KT L x k (ix2 b n) = cheb (fun i j => L (ix2 i j)) (fun b n => x (ix2 b n)) k b n
  | 0, _, _ => rfl
  | 1, b, n => by
    show Ideal.ofBits .f32 0x3F000000#32 * timesTwoL L x (ix2 b n) = _
    rw [timesTwoL_at, word_half, half_two]
    exact Finset.sum_congr rfl fun j _ => by rw [hL j n]
  | k + 2, b, n => by
    show timesTwoL L (KT L x (k + 1)) (ix2 b n) - KT L x k (ix2 b n) = _
    rw [timesTwoL_at, KT_eq L hL x k b n]
    show _ = 2 * (∑ j, cheb (fun i j => L (ix2 i j)) (fun b n => x (ix2 b n)) (k + 1) b j * L (ix2 n j)) - _
    congr 2
    exact Finset.sum_congr rfl fun j _ => by rw [KT_eq L hL x (k + 1) b j, hL j n]

/-- The body's three groups of terms, read at an index, are the one sum over the 25 terms. -/
theorem grouped_at (a : ℕ → FVec Ideal S256x1024 .bf16) (i : S256x1024.Idx) :
    grouped a i = ∑ k : Fin 25, a k i := by
  idx_vars i
  pointwise [grouped, twelve]
  rw [Fin.sum_univ_eq_sum_range (fun k => a k (ix2 i0 i1)) 25]
  simp only [Finset.sum_range_succ, Finset.sum_range_zero, zero_add, add_assoc]

/-- The kernel's hidden units, read at an index. -/
theorem hidden_at (L : FVec Ideal S1024x1024 .f32) (hL : ∀ i j : Fin 1024, L (ix2 i j) = L (ix2 j i))
    (x : FVec Ideal S256x1024 .f32) (w : FVec Ideal S25x10 .f32) (bias : FVec Ideal S10 .f32) (g : Fin 10)
    (b : Fin 256) (n : Fin 1024) :
    cutOff (grouped fun k => weighted (w (ix2 (Fin.ofNat 25 k) g)) (KT L x k)) (bias (ix1 g)) (ix2 b n)
      = hidden (fun i j => L (ix2 i j)) (fun b n => x (ix2 b n)) (fun k g => w (ix2 k g)) (fun g => bias (ix1 g)) b n g := by
  have h : cutOff (grouped fun k => weighted (w (ix2 (Fin.ofNat 25 k) g)) (KT L x k)) (bias (ix1 g)) (ix2 b n)
      = max (grouped (fun k => weighted (w (ix2 (Fin.ofNat 25 k) g)) (KT L x k)) (ix2 b n) + bias (ix1 g)) 0 := by
    pointwise [cutOff]
  rw [h, grouped_at, hidden]
  congr 2
  refine Finset.sum_congr rfl fun k _ => ?_
  have hk : Fin.ofNat 25 (k : ℕ) = k := Fin.ext (Nat.mod_eq_of_lt k.isLt)
  show w (ix2 (Fin.ofNat 25 (k : ℕ)) g) * KT L x k (ix2 b n) = _
  rw [hk, KT_eq L hL, mul_comm]

/-- The kernel's scores, read at an index: the bias and the ten filters' shares, each a sum over the nodes. -/
theorem logits_at (bo : FVec Ideal S1x10 .f32) (r : Fin 10 → FVec Ideal S256x1024 .bf16)
    (W : FVec Ideal S10x1024x10 .bf16) (b : Fin 256) (d : Fin 10) :
    logitsOf bo (fun g => share (r g) (layer W g)) (ix2 b d)
      = score (fun b n g => r g (ix2 b n)) (fun n g d => W (ix3 g n d)) (fun d => bo (ix2 0 d)) b d := by
  have h : ∀ p : Fin 10 → FVec Ideal S256x10 .f32, logitsOf bo p (ix2 b d) = (∑ g, p g (ix2 b d)) + bo (ix2 0 d) := by
    intro p
    pointwise [logitsOf]
    rw [add_comm (∑ g, p g (ix2 b d))]
    simp only [Fin.sum_univ_succ, Finset.univ_eq_empty, Finset.sum_empty, add_zero, add_assoc]
    rfl
  rw [h, score]
  congr 1
  refine Finset.sum_congr rfl fun g _ => ?_
  have hs : ∀ (q : FVec Ideal S256x1024 .bf16) (v : FVec Ideal S1024x10 .bf16),
      share q v (ix2 b d) = ∑ n, q (ix2 b n) * v (ix2 n d) := by
    intro q v
    pointwise [share]
  exact hs _ _

/-- The kernel's last lines, read at an index, are the log-softmax of the scores. -/
theorem tail_at (z : FVec Ideal S256x10 .f32) (b : Fin 256) (d : Fin 10) :
    lessLogSum (lessMax z) (ix2 b d) = logSoftmax (fun b d => z (ix2 b d)) b d := by
  have hm : ∀ d, lessMax z (ix2 b d) = lessTop (fun b d => z (ix2 b d)) b d := by
    intro d
    pointwise [lessMax]
    rw [word_bot, lessTop]
  have hl : ∀ v : FVec Ideal S256x10 .f32,
      lessLogSum v (ix2 b d) = v (ix2 b d) - Ideal.log (∑ e, Ideal.exp (v (ix2 b e))) := by
    intro v
    pointwise [lessLogSum]
  rw [hl, logSoftmax]
  simp only [hm]

/-- The body's output block, read at an index: the layer at the six arrays it finds, `L` symmetric. -/
theorem body_at (x : FVec Ideal S256x1024 .f32) (L : FVec Ideal S1024x1024 .f32)
    (hL : ∀ i j : Fin 1024, L (ix2 i j) = L (ix2 j i)) (w : FVec Ideal S25x10 .f32) (bias : FVec Ideal S10 .f32)
    (W : FVec Ideal S10x1024x10 .f32) (bo : FVec Ideal S1x10 .f32) (b : Fin 256) (d : Fin 10) :
    body x L w bias W bo (ix2 b d)
      = net (fun i j => L (ix2 i j)) (fun b n => x (ix2 b n)) (fun k g => w (ix2 k g)) (fun g => bias (ix1 g))
          (fun n g d => W (ix3 g n d)) (fun d => bo (ix2 0 d)) b d := by
  unfold body
  rw [tail_at, net]
  congr 1
  funext b d
  rw [logits_at]
  congr 1
  funext b n g
  exact hidden_at L hL x w bias g b n

/-- The kernel's result, read at an index: the layer at the six arguments, `L` symmetric. Entry `(g, n, d)` of the last
    layer is row `10 n + g`, column `d` of the fifth argument. -/
theorem kernelOut_at (m : (ℓ : Loc nD τ sig) → Buf (Elt Ideal) ℓ) (c : Dev nD)
    (hL : ∀ i j : Fin 1024, m (c, main_arg1) (ix2 i j) = m (c, main_arg1) (ix2 j i)) (b : Fin 256) (d : Fin 10) :
    kernelOut m c (ix2 b d)
      = net (fun i j => m (c, main_arg1) (ix2 i j)) (fun b n => m (c, main_arg0) (ix3 b n 0))
          (fun k g => m (c, main_arg2) (ix3 k 0 g)) (fun g => m (c, main_arg3) (ix1 g))
          (fun n g d => m (c, main_arg4) (ix2 (Fin.ofNat 10240 ((n : ℕ) * 10 + (g : ℕ))) d))
          (fun d => m (c, main_arg5) (ix1 d)) b d := by
  rw [kernelOut, body_at _ _ (by rw [V_main_arg1]; exact hL), V_main_arg1, V_main_arg3]
  congr 1
  · funext b n; exact found_x m c (ix2 b n)
  · funext k g; exact found_w m c (ix2 k g)
  · funext n g d; exact found_W m c (ix3 g n d)
  · funext d; exact found_bo m c (ix2 0 d)

end Cert.Cheb
-- ==== Proof.ReferenceTerms.lean ====
/-
  The reference's Chebyshev terms. It computes each from the two before it, the first two being the signals and their
  product by `L`, and stacks the 25 of them; the stack read at term `k` is the recursion's `k`-th term.
-/
module

public import proofs.«01_k».proof.Proof.ChebMath
public import proofs.«01_k».proof.Proof.Gen.ReferenceIdeal.Run

@[expose] public section

set_option maxRecDepth 16384

noncomputable section

namespace Cert.Cheb.Ref

open Idealize.ShloMosaic Idealize.ShloMosaic.TcCoe Cert.ReferenceIdeal Cert.ReferenceIdeal.Gen Cert.ReferenceIdeal.Value

/-- The signals, as the reference's first argument. -/
abbrev argX (V0 : Valuation τ sig (Elt Ideal)) : FVec Ideal S256x1024x1 .f32 := V0 (Proc.devRef .tc main_arg0)

/-- The graph's matrix, as the reference's second argument. -/
abbrev argL (V0 : Valuation τ sig (Elt Ideal)) : FVec Ideal S1024x1024 .f32 := V0 (Proc.devRef .tc main_arg1)

/-- A batch of signals multiplied by `L`. -/
abbrev timesL (L : FVec Ideal S1024x1024 .f32) (p : FVec Ideal S256x1024x1 .f32) : FVec Ideal S256x1024x1 .f32 :=
  transpose S256x1024x1 [0, 2, 1] (Host.dotGeneral dot_S256x1024x1_S1024x1024_S256x1x1024_1_1_02_0_n_n none p L)
    transposes_S256x1x1024_S256x1024x1_0_2_1

/-- Every entry doubled. -/
abbrev twice (p : FVec Ideal S256x1024x1 .f32) : FVec Ideal S256x1024x1 .f32 :=
  mulf (broadcastInDim S256x1024x1 ![] bcast_S_S256x1024x1 (constant S_ .f32 0x40000000#32)) p

/-- The reference's terms, by the recursion it writes out line by line. -/
def RT (L : FVec Ideal S1024x1024 .f32) (x : FVec Ideal S256x1024x1 .f32) : ℕ → FVec Ideal S256x1024x1 .f32
  | 0 => x
  | 1 => timesL L x
  | k + 2 => subf (twice (timesL L (RT L x (k + 1)))) (RT L x k)

/-- One term as a slab of the stack. -/
abbrev slab (p : FVec Ideal S256x1024x1 .f32) : (s : Shape) × FVec Ideal s .f32 :=
  ⟨S1x256x1024x1, broadcastInDim S1x256x1024x1 ![1, 2, 3] bcast_S256x1024x1_S1x256x1024x1_1_2_3 p⟩

/-- The first sixteen terms, stacked. -/
abbrev stack16 (t : ℕ → FVec Ideal S256x1024x1 .f32) : FVec Ideal S16x256x1024x1 .f32 :=
  concatenate S16x256x1024x1 0
    [slab (t 0), slab (t 1), slab (t 2), slab (t 3), slab (t 4), slab (t 5), slab (t 6), slab (t 7),
      slab (t 8), slab (t 9), slab (t 10), slab (t 11), slab (t 12), slab (t 13), slab (t 14), slab (t 15)]
    concatenates_S1x256x1024x1_S1x256x1024x1_S1x256x1024x1_S1x256x1024x1_S1x256x1024x1_S1x256x1024x1_S1x256x1024x1_S1x256x1024x1_S1x256x1024x1_S1x256x1024x1_S1x256x1024x1_S1x256x1024x1_S1x256x1024x1_S1x256x1024x1_S1x256x1024x1_S1x256x1024x1_S16x256x1024x1_d0

/-- The last nine terms, stacked. -/
abbrev stack9 (t : ℕ → FVec Ideal S256x1024x1 .f32) : FVec Ideal S9x256x1024x1 .f32 :=
  concatenate S9x256x1024x1 0
    [slab (t 16), slab (t 17), slab (t 18), slab (t 19), slab (t 20), slab (t 21),
      slab (t 22), slab (t 23), slab (t 24)]
    concatenates_S1x256x1024x1_S1x256x1024x1_S1x256x1024x1_S1x256x1024x1_S1x256x1024x1_S1x256x1024x1_S1x256x1024x1_S1x256x1024x1_S1x256x1024x1_S9x256x1024x1_d0

/-- All 25 terms, stacked. -/
abbrev stack (t : ℕ → FVec Ideal S256x1024x1 .f32) : FVec Ideal S25x256x1024x1 .f32 :=
  concatenate S25x256x1024x1 0 [⟨S16x256x1024x1, stack16 t⟩, ⟨S9x256x1024x1, stack9 t⟩]
    concatenates_S16x256x1024x1_S9x256x1024x1_S25x256x1024x1_d0

/-- What the reference stacks are the terms of the recursion. -/
theorem stacked (V0 : Valuation τ sig (Elt Ideal)) : res_main_v144 V0 = stack (RT (argL V0) (argX V0)) := rfl

/-- The stack read at its `k`-th slab is the `k`-th term. -/
theorem stack_at (t : ℕ → FVec Ideal S256x1024x1 .f32) (k : Fin 25) (b : Fin 256) (n : Fin 1024) :
    stack t (ix4 k b n 0) = t k (ix3 b n 0) := by
  pointwise [stack, stack16, stack9]
  fin_vals k with hk
  all_goals simp only [hk, Nat.reduceSub, Nat.reduceLT, ↓reduceDIte]

/-- A product by `L`, read at signal `b` and node `n`: the sum along row `n` of `L`. -/
theorem timesL_at (L : FVec Ideal S1024x1024 .f32) (p : FVec Ideal S256x1024x1 .f32) (b : Fin 256) (n : Fin 1024) :
    timesL L p (ix3 b n 0) = ∑ j, p (ix3 b j 0) * L (ix2 n j) := by
  pointwise [timesL]

/-- A doubled batch, read at an index. -/
theorem twice_at (p : FVec Ideal S256x1024x1 .f32) (b : Fin 256) (n : Fin 1024) :
    twice p (ix3 b n 0) = 2 * p (ix3 b n 0) := by
  pointwise [twice]
  rw [word_two]

/-- The reference's terms are the Chebyshev terms. -/
theorem RT_eq (L : FVec Ideal S1024x1024 .f32) (x : FVec Ideal S256x1024x1 .f32) :
    ∀ (k : ℕ) (b : Fin 256) (n : Fin 1024),
      RT L x k (ix3 b n 0) = cheb (fun i j => L (ix2 i j)) (fun b n => x (ix3 b n 0)) k b n
  | 0, _, _ => rfl
  | 1, b, n => timesL_at L x b n
  | k + 2, b, n => by
    show twice (timesL L (RT L x (k + 1))) (ix3 b n 0) - RT L x k (ix3 b n 0) = _
    rw [twice_at, timesL_at, RT_eq L x k b n]
    simp only [RT_eq L x (k + 1) b]
    rfl

end Cert.Cheb.Ref
-- ==== Proof.ReferenceValue.lean ====
/-
  The reference's result, read element by element: the log-softmax of the scores of the hidden units of the Chebyshev
  terms of its arguments.
-/
module

public import proofs.«01_k».proof.Proof.ReferenceTerms

@[expose] public section

set_option maxRecDepth 16384

noncomputable section

namespace Cert.Cheb.Ref

open Idealize.ShloMosaic Idealize.ShloMosaic.TcCoe Cert.ReferenceIdeal Cert.ReferenceIdeal.Gen Cert.ReferenceIdeal.Value

/-- The filters' weighted sums of the stacked terms, their biases added and cut off below at zero. -/
abbrev units (T : FVec Ideal S25x256x1024x1 .f32) (w : FVec Ideal S25x1x10 .f32) (bias : FVec Ideal S10 .f32) :
    FVec Ideal S256x1024x10 .f32 :=
  maximumf (addf (Host.dotGeneral dot_S25x256x1024x1_S25x1x10_S256x1024x10_30_10_12_2_n_n none T w)
      (broadcastInDim S256x1024x10 ![0, 1, 2] bcast_S1x1x10_S256x1024x10_0_1_2
        (broadcastInDim S1x1x10 ![2] bcast_S10_S1x1x10_2 bias)))
    (broadcastInDim S256x1024x10 ![] bcast_S_S256x1024x10 (constant S_ .f32 0x00000000#32))

/-- The scores: the hidden units laid out as one row a signal, times the last layer, plus its bias. -/
abbrev scores (h : FVec Ideal S256x1024x10 .f32) (W : FVec Ideal S10240x10 .f32) (bo : FVec Ideal S10 .f32) :
    FVec Ideal S256x10 .f32 :=
  addf (Host.dotGeneral dot_S256x10240_S10240x10_S256x10_1_0_0_1_n_n none
      (shapeCast _ h shapeCasts_S256x1024x10_S256x10240) W)
    (broadcastInDim S256x10 ![0, 1] bcast_S1x10_S256x10_0_1 (broadcastInDim S1x10 ![1] bcast_S10_S1x10_1 bo))

/-- The scores less the largest of each row. -/
abbrev lessMax (z : FVec Ideal S256x10 .f32) : FVec Ideal S256x10 .f32 :=
  subf z (broadcastInDim S256x10 ![0, 1] bcast_S256x1_S256x10_0_1 (broadcastInDim S256x1 ![0] bcast_S256_S256x1_0
    (maximumf (broadcastInDim S256 ![] bcast_S_S256 (constant S_ .f32 0xFF800000#32))
      (Host.reduce FloatOps.maximumf z (constant S_ .f32 0xFF800000#32) reducesTo_S256x10_S256_d1 h_S_))))

/-- Those less the logarithm of each row's sum of exponentials. -/
abbrev lessLogSum (z : FVec Ideal S256x10 .f32) : FVec Ideal S256x10 .f32 :=
  subf z (broadcastInDim S256x10 ![0, 1] bcast_S256x1_S256x10_0_1 (Host.log (broadcastInDim S256x1 ![0]
    bcast_S256_S256x1_0 (Host.reduceAdd (Host.exp z) (constant S_ .f32 0x00000000#32) reducesTo_S256x10_S256_d1 h_S_))))

/-- The reference's result, from its six arguments. -/
def refOut (V0 : Valuation τ sig (Elt Ideal)) : FVec Ideal S256x10 .f32 := lessLogSum (res_main_call1_v5 V0)

/-- It is those steps one after another. -/
theorem refOut_eq (V0 : Valuation τ sig (Elt Ideal)) :
    refOut V0 = lessLogSum (lessMax (scores (units (stack (RT (argL V0) (argX V0))) (V0 (Proc.devRef .tc main_arg2))
      (V0 (Proc.devRef .tc main_arg3))) (V0 (Proc.devRef .tc main_arg4)) (V0 (Proc.devRef .tc main_arg5)))) := rfl

/-- The hidden units, read at an index. -/
theorem units_at (T : FVec Ideal S25x256x1024x1 .f32) (w : FVec Ideal S25x1x10 .f32) (bias : FVec Ideal S10 .f32)
    (b : Fin 256) (n : Fin 1024) (g : Fin 10) :
    units T w bias (ix3 b n g) = max ((∑ k : Fin 25, T (ix4 k b n 0) * w (ix3 k 0 g)) + bias (ix1 g)) 0 := by
  pointwise [units]
  rw [Fin.sum_univ_one]

/-- The scores, read at an index. -/
theorem scores_at (h : FVec Ideal S256x1024x10 .f32) (W : FVec Ideal S10240x10 .f32) (bo : FVec Ideal S10 .f32)
    (b : Fin 256) (d : Fin 10) :
    scores h W bo (ix2 b d) = score (fun b n g => h (ix3 b n g))
      (fun n g d => W (ix2 (Fin.ofNat 10240 ((n : ℕ) * 10 + (g : ℕ))) d)) (fun d => bo (ix1 d)) b d := by
  pointwise [scores]
  rw [score, sum_rows]
  simp only [row_node, row_filter]

/-- The scores less the largest of each row, read at an index. -/
theorem lessMax_at (z : FVec Ideal S256x10 .f32) (b : Fin 256) (d : Fin 10) :
    lessMax z (ix2 b d) = lessTop (fun b d => z (ix2 b d)) b d := by
  pointwise [lessMax]
  rw [word_bot, lessTop, max_eq_right bot_le]

/-- Those less the logarithm of each row's sum of exponentials, read at an index. -/
theorem lessLogSum_at (z : FVec Ideal S256x10 .f32) (b : Fin 256) (d : Fin 10) :
    lessLogSum z (ix2 b d) = z (ix2 b d) - Ideal.log (∑ e, Ideal.exp (z (ix2 b e))) := by
  pointwise [lessLogSum]

/-- The two together are the log-softmax of the scores. -/
theorem tail_at (z : FVec Ideal S256x10 .f32) (b : Fin 256) (d : Fin 10) :
    lessLogSum (lessMax z) (ix2 b d) = logSoftmax (fun b d => z (ix2 b d)) b d := by
  rw [lessLogSum_at, logSoftmax]
  simp only [lessMax_at]

/-- The reference's result, read at an index: the layer at the six arguments. Entry `(g, n, d)` of the last layer is row
    `10 n + g`, column `d` of the fifth argument. -/
theorem refOut_at (V0 : Valuation τ sig (Elt Ideal)) (b : Fin 256) (d : Fin 10) :
    refOut V0 (ix2 b d)
      = net (fun i j => V0 main_arg1 (ix2 i j)) (fun b n => V0 main_arg0 (ix3 b n 0))
          (fun k g => V0 main_arg2 (ix3 k 0 g)) (fun g => V0 main_arg3 (ix1 g))
          (fun n g d => V0 main_arg4 (ix2 (Fin.ofNat 10240 ((n : ℕ) * 10 + (g : ℕ))) d))
          (fun d => V0 main_arg5 (ix1 d)) b d := by
  rw [refOut_eq, tail_at, net]
  refine congrArg (fun z => logSoftmax z b d) ?_
  funext b d
  rw [scores_at]
  refine congrArg (fun h => score h _ _ b d) ?_
  funext b n g
  rw [units_at, hidden]
  simp only [stack_at, RT_eq]

end Cert.Cheb.Ref
-- ==== Proof.Equal.lean ====
/-
  The equation: from arguments that agree and a symmetric `L`, the kernel's result and the reference's are the same array.
-/
module

public import proofs.«01_k».proof.Defs
public import proofs.«01_k».proof.Proof.Gen.Pre_symmetric
public import proofs.«01_k».proof.Proof.KernelValue
public import proofs.«01_k».proof.Proof.ReferenceValue
public import Idealize.ShloMosaic.Lib.ReduceAll

@[expose] public section

noncomputable section

namespace Cert.Cheb

open Idealize.ShloMosaic Idealize.ShloMosaic.TcCoe Idealize.SL.Sem

/-- What the precondition says of `L`: every entry equals its mirror image. -/
theorem symm_of_pre (x : FVec Ideal Cert.Pre_symmetric.S256x1024x1 .f32) (L : FVec Ideal Cert.Pre_symmetric.S1024x1024 .f32)
    (w : FVec Ideal Cert.Pre_symmetric.S25x1x10 .f32) (b : FVec Ideal Cert.Pre_symmetric.S10 .f32)
    (W : FVec Ideal Cert.Pre_symmetric.S10240x10 .f32) (bo : FVec Ideal Cert.Pre_symmetric.S10 .f32)
    (h : Cert.Pre_symmetric.fn x L w b W bo = fun _ => 1#1) (i j : Fin 1024) : L (ix2 i j) = L (ix2 j i) := by
  have e : Cert.Pre_symmetric.fn x L w b W bo ix0 = 1#1 := congrFun h ix0
  have hall := Host.reduce_andi_all _ _ _ _ ix0 e (ix2 i j)
  have hc : cmpf .oeq L (transpose Cert.Pre_symmetric.S1024x1024 [1, 0] L
      Cert.Pre_symmetric.Facts.transposes_S1024x1024_S1024x1024_1_0) (ix2 i j) = BitVec.ofBool (decide (L (ix2 i j) = L (ix2 j i))) := by
    pointwise
  by_contra hne
  rw [hc, decide_eq_false hne] at hall
  exact absurd hall (by decide)

/-- The kernel's result is the reference's. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hL : ∀ i j : Fin 1024, m (c, Cert.KernelIdeal.main_arg1) (ix2 i j) = m (c, Cert.KernelIdeal.main_arg1) (ix2 j i))
    (h0 : m' (c, Cert.ReferenceIdeal.main_arg0) = m (c, Cert.KernelIdeal.main_arg0))
    (h1 : m' (c, Cert.ReferenceIdeal.main_arg1) = m (c, Cert.KernelIdeal.main_arg1))
    (h2 : m' (c, Cert.ReferenceIdeal.main_arg2) = m (c, Cert.KernelIdeal.main_arg2))
    (h3 : m' (c, Cert.ReferenceIdeal.main_arg3) = m (c, Cert.KernelIdeal.main_arg3))
    (h4 : m' (c, Cert.ReferenceIdeal.main_arg4) = m (c, Cert.KernelIdeal.main_arg4))
    (h5 : m' (c, Cert.ReferenceIdeal.main_arg5) = m (c, Cert.KernelIdeal.main_arg5)) :
    Ref.refOut (StableHlo.launchContents m' c) = kernelOut m c := by
  funext i
  idx_vars i
  rw [kernelOut_at m c hL]
  refine (Ref.refOut_at (StableHlo.launchContents m' c) i0 i1).trans ?_
  show net (fun i j => m' (c, Cert.ReferenceIdeal.main_arg1) (ix2 i j)) (fun b n => m' (c, Cert.ReferenceIdeal.main_arg0) (ix3 b n 0))
      (fun k g => m' (c, Cert.ReferenceIdeal.main_arg2) (ix3 k 0 g)) (fun g => m' (c, Cert.ReferenceIdeal.main_arg3) (ix1 g))
      (fun n g d => m' (c, Cert.ReferenceIdeal.main_arg4) (ix2 (Fin.ofNat 10240 ((n : ℕ) * 10 + (g : ℕ))) d))
      (fun d => m' (c, Cert.ReferenceIdeal.main_arg5) (ix1 d)) i0 i1 = _
  rw [h0, h1, h2, h3, h4, h5]

end Cert.Cheb
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_symmetric
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs and keeps its arguments; it declares no semaphore, so every counter reads zero. -/
theorem referenceFrame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From agreeing arguments with a symmetric `L`, the kernel and the reference both run, keep their arguments, and end
    with the same result array. -/
theorem algebraic : Cert.algebraic_KernelIdeal_ReferenceIdeal_pre_symmetric := by
  intro m ρ m' ρ' hpre hagree
  refine ⟨fun c => Cert.Cheb.kernelOut m c, ?_, ?_⟩
  · exact (θ_run Cert.KernelIdeal.defs _ _).mono
      (fun _ h c => ⟨(h c).1.trans (Cert.Cheb.array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    exact Cert.Cheb.equal m m' c (Cert.Cheb.symm_of_pre _ _ _ _ _ _ (hpre c)) h0 h1 h2 h3 h4 h5

/-- Every claim of the certificate: each program runs, keeps its arguments and leaves every counter at zero, with the
    precondition and without; the kernel read at the extended reals is its own text; and it computes the reference. -/
theorem claim : Cert.Claim :=
  ⟨Cert.Kernel.Gen.facts, Cert.KernelIdeal.Gen.facts, Cert.ReferenceIdeal.Gen.facts, Cert.Pre_symmetric.Gen.facts,
    fun m ρ _ => Cert.Kernel.Gen.frame m ρ,
    fun m ρ _ => Cert.KernelIdeal.Gen.frame m ρ,
    fun m ρ _ => Cert.KernelIdeal.Gen.frame m ρ,
    referenceFrame,
    fun m ρ _ => referenceFrame m ρ trivial,
    trivial,
    algebraic⟩

end Cert.Proof

end
